-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "c" .f32 0x4007E439#32 ((Real.sqrt ((Real.log 2)⁻¹ * (5368709 / 16777216)⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x2000x512 : Shape := ⟨3, ![64, 2000, 512]⟩
abbrev S64 : Shape := ⟨1, ![64]⟩
abbrev S_ : Shape := ⟨0, ![]⟩

class Facts : Prop where
  bcast_S_S64x2000x512 : S_.BroadcastsInDim S64x2000x512 (![] : Fin 0 → Fin S64x2000x512.rank)
  reducesTo_S64x2000x512_S_d0_1_2 : S64x2000x512.ReducesTo [0, 1, 2] S_
  h_S_ : 0 < S_.numel

variable [Facts]

def fn {F : FTy → Type} [FloatOps F] (main_arg0 : FVec F S64x2000x512 .f32) (main_arg1 : IVec S64 32) (main_arg2 : IVec S64 32) : IVec S_ 1 :=
  let main_v0 : FVec F S64x2000x512 .f32 := Host.absf main_arg0
  let main_cst : FVec F S_ .f32 := constant S_ .f32 0x7F800000#32
  let main_v1 : FVec F S64x2000x512 .f32 := broadcastInDim S64x2000x512 ![] bcast_S_S64x2000x512 main_cst
  let main_v2 : IVec S64x2000x512 1 := cmpf .olt main_v0 main_v1
  let main_c : IVec S_ 1 := constantI S_ 1 1#1
  let main_v3 : IVec S_ 1 := (fun x v => Host.reduce IntOp.andi x v reducesTo_S64x2000x512_S_d0_1_2 h_S_) main_v2 main_c
  main_v3
-- ==== Kernel.lean ====
abbrev S64x2000x512 : Shape := ⟨3, ![64, 2000, 512]⟩
abbrev S64 : Shape := ⟨1, ![64]⟩
abbrev S8x128 : Shape := ⟨2, ![8, 128]⟩
abbrev S4x2000x512 : Shape := ⟨3, ![4, 2000, 512]⟩
abbrev S2000x128 : Shape := ⟨2, ![2000, 128]⟩
abbrev S2000x1 : Shape := ⟨2, ![2000, 1]⟩
abbrev S2000x512 : Shape := ⟨2, ![2000, 512]⟩
abbrev S1x512 : Shape := ⟨2, ![1, 512]⟩
abbrev S1 : Shape := ⟨1, ![1]⟩
abbrev S1x2000x512 : Shape := ⟨3, ![1, 2000, 512]⟩
abbrev S2000 : Shape := ⟨1, ![2000]⟩
abbrev S1x2000x1 : Shape := ⟨3, ![1, 2000, 1]⟩
abbrev S1x1x1 : Shape := ⟨3, ![1, 1, 1]⟩
abbrev S1x1 : Shape := ⟨2, ![1, 1]⟩
abbrev S_ : Shape := ⟨0, ![]⟩

abbrev nBuf : Space → Nat
  | .hbm => 6
  | .vmem => 6
  | .smem => 2
  | _ => 0

abbrev bufTy : (tb : Table) → Fin (tcTables nBuf tb) → BufTy
  | .hbm, ⟨0, _⟩ => ⟨S64x2000x512, .f32⟩
  | .hbm, ⟨1, _⟩ => ⟨S8x128, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S4x2000x512, .f32⟩
  | .local _ .vmem, ⟨1, _⟩ => ⟨S4x2000x512, .f32⟩
  | .local _ .vmem, ⟨2, _⟩ => ⟨S8x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .smem, ⟨0, _⟩ => ⟨S64, .i32⟩
  | .local _ .smem, ⟨1, _⟩ => ⟨S64, .i32⟩
  | _, _ => ⟨S64x2000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c0_i32_4 : BitVec 32) : Fin 1 → Nat :=
  let c4_i32 : BitVec 32 := 4#32
  let arg0 : BitVec 32 := BitVec.ofNat 32 (i 0).val
  let v8 : BitVec 32 := Scalar.muli c4_i32 arg0
  let v9 : BitVec 32 := Scalar.addi v8 c0_i32_4
  let v10 : Index := Scalar.indexCast v9
  ![v10.toNat]
def k0_cond2 (i : grid0.Coords) : BitVec 1 :=
  let arg0 : BitVec 32 := BitVec.ofNat 32 (i 0).val
  let c15_i32 : BitVec 32 := 15#32
  let v172 : BitVec 1 := Scalar.cmpi .eq arg0 c15_i32
  let v173 : BitVec 32 := Scalar.extui v172
  let c0_i32_52 : BitVec 32 := 0#32
  let v174 : BitVec 1 := Scalar.cmpi .ne v173 c0_i32_52
  v174

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== KernelIdeal.lean ====
variable {F : FTy → Type} [FloatOps F] [Named F]
def κ : String → Option EReal := fun
  | "c" => some ((Real.sqrt ((Real.log 2)⁻¹ * (5368709 / 16777216)⁻¹) : ℝ) : EReal)
  | _ => none
-- ==== ReferenceIdeal.lean ====
abbrev S64x2000x512 : Shape := ⟨3, ![64, 2000, 512]⟩
abbrev S64 : Shape := ⟨1, ![64]⟩
abbrev S2000 : Shape := ⟨1, ![2000]⟩
abbrev S1x2000x1 : Shape := ⟨3, ![1, 2000, 1]⟩
abbrev S512 : Shape := ⟨1, ![512]⟩
abbrev S1x1x512 : Shape := ⟨3, ![1, 1, 512]⟩
abbrev S64x1x1 : Shape := ⟨3, ![64, 1, 1]⟩
abbrev S64x1x512 : Shape := ⟨3, ![64, 1, 512]⟩
abbrev S_ : Shape := ⟨0, ![]⟩
abbrev S64x2000x1 : Shape := ⟨3, ![64, 2000, 1]⟩

abbrev nBuf : Space → Nat
  | .hbm => 45
  | .vmem => 0
  | .smem => 0
  | _ => 0

abbrev bufTy : (tb : Table) → Fin (tcTables nBuf tb) → BufTy
  | .hbm, ⟨0, _⟩ => ⟨S64x2000x512, .f32⟩
  | .hbm, ⟨1, _⟩ => ⟨S64, .i32⟩
  | .hbm, ⟨2, _⟩ => ⟨S64, .i32⟩
  | .hbm, ⟨3, _⟩ => ⟨S2000, .f32⟩
  | .hbm, ⟨4, _⟩ => ⟨S1x2000x1, .f32⟩
  | .hbm, ⟨5, _⟩ => ⟨S512, .f32⟩
  | .hbm, ⟨6, _⟩ => ⟨S1x1x512, .f32⟩
  | .hbm, ⟨7, _⟩ => ⟨S64, .f32⟩
  | .hbm, ⟨8, _⟩ => ⟨S64x1x1, .f32⟩
  | .hbm, ⟨9, _⟩ => ⟨S64, .f32⟩
  | .hbm, ⟨10, _⟩ => ⟨S64x1x1, .f32⟩
  | .hbm, ⟨11, _⟩ => ⟨S64x1x512, .f32⟩
  | .hbm, ⟨12, _⟩ => ⟨S64x1x512, .f32⟩
  | .hbm, ⟨13, _⟩ => ⟨S64x1x512, .f32⟩
  | .hbm, ⟨14, _⟩ => ⟨S64x1x512, .f32⟩
  | .hbm, ⟨15, _⟩ => ⟨S64x1x512, .f32⟩
  | .hbm, ⟨16, _⟩ => ⟨S64x2000x512, .f32⟩
  | .hbm, ⟨17, _⟩ => ⟨S64x2000x512, .f32⟩
  | .hbm, ⟨18, _⟩ => ⟨S64x2000x512, .f32⟩
  | .hbm, ⟨19, _⟩ => ⟨S64x2000x512, .f32⟩
  | .hbm, ⟨20, _⟩ => ⟨S64x2000x512, .f32⟩
  | .hbm, ⟨21, _⟩ => ⟨S_, .f32⟩
  | .hbm, ⟨22, _⟩ => ⟨S64x2000x512, .f32⟩
  | .hbm, ⟨23, _⟩ => ⟨S64x2000x512, .f32⟩
  | .hbm, ⟨24, _⟩ => ⟨S64x2000x512, .f32⟩
  | .hbm, ⟨25, _⟩ => ⟨S_, .f32⟩
  | .hbm, ⟨26, _⟩ => ⟨S64x2000x512, .f32⟩
  | .hbm, ⟨27, _⟩ => ⟨S64x2000x512, .f32⟩
  | .hbm, ⟨28, _⟩ => ⟨S64x2000x1, .f32⟩
  | .hbm, ⟨29, _⟩ => ⟨S64x2000x1, .f32⟩
  | .hbm, ⟨30, _⟩ => ⟨S64x2000x1, .i1⟩
  | .hbm, ⟨31, _⟩ => ⟨S64x1x512, .f32⟩
  | .hbm, ⟨32, _⟩ => ⟨S64x1x512, .f32⟩
  | .hbm, ⟨33, _⟩ => ⟨S64x1x512, .i1⟩
  | .hbm, ⟨34, _⟩ => ⟨S64x2000x512, .i1⟩
  | .hbm, ⟨35, _⟩ => ⟨S64x2000x512, .i1⟩
  | .hbm, ⟨36, _⟩ => ⟨S64x2000x512, .i1⟩
  | .hbm, ⟨37, _⟩ => ⟨S_, .f32⟩
  | .hbm, ⟨38, _⟩ => ⟨S64x2000x512, .f32⟩
  | .hbm, ⟨39, _⟩ => ⟨S64x2000x512, .f32⟩
  | .hbm, ⟨40, _⟩ => ⟨S64x2000x512, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S64x2000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_call0_v0 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Proof.Gauss.lean ====
/-
  The mathematics of one alignment. The kernel weighs an alignment `a` at row `i`, column `j` by a power of two of a
  scaled distance to the diagonal and subtracts; the reference weighs it by one minus a Gaussian. For a finite `a` the two
  are the same extended real, whatever the two lengths are.
-/
module

public import Idealize.ShloMosaic.PureOps.Ideal
public import Idealize.ShloMosaic.Lib.Pointwise

@[expose] public section

noncomputable section

open Idealize.ShloMosaic

namespace Cert.Gauss

/-- Twice the squared width of the Gaussian: the number the reference divides by. -/
def spread : ℝ := 5368709 / 16777216

/-- The scale the kernel multiplies both coordinates by, so that a Gaussian becomes a power of two. -/
def scale : ℝ := Real.sqrt ((Real.log 2)⁻¹ * (5368709 / 16777216)⁻¹)

theorem spread_ne_zero : spread ≠ 0 := by norm_num [spread]

/-- The scale's square, times the logarithm of two, is the reciprocal of the spread. -/
theorem scale_sq : Real.log 2 * (scale * scale) = 1 / spread := by
  have h2 : 0 < Real.log 2 := Real.log_pos (by norm_num)
  rw [scale, Real.mul_self_sqrt (by positivity), spread, ← mul_assoc, mul_inv_cancel₀ h2.ne', one_mul, one_div]

/-- Two to the minus square of the scaled distance is the Gaussian of the distance. -/
theorem two_pow_scaled (x y : ℝ) :
    Real.rpow 2 ((x * scale - y * scale) * (y * scale - x * scale)) = Real.exp (-((x - y) * (x - y)) * (1 / spread)) := by
  rw [Real.rpow_eq_pow, Real.rpow_def_of_pos (by norm_num), ← scale_sq]
  congr 1
  ring

/-- What the kernel adds for one alignment `a` at row `i`, column `j`, in a sequence of input length `li` and output
    length `lo`: the alignment with the columns past the input length cleared, minus that times the power of two. -/
def kernelEntry (li lo : ℤ) (i j : ℕ) (a : EReal) : EReal :=
  a * (if (j : ℤ) < li then 1 else 0)
    - a * (if (j : ℤ) < li then 1 else 0)
      * Ideal.exp2 ((((i : ℝ) : EReal) * (scale : EReal)
            - ((j : ℝ) : EReal) * (Ideal.div ((lo : ℝ) : EReal) ((li : ℝ) : EReal) * (scale : EReal)))
          * (((j : ℝ) : EReal) * (Ideal.div ((lo : ℝ) : EReal) ((li : ℝ) : EReal) * (scale : EReal))
            - ((i : ℝ) : EReal) * (scale : EReal)))

/-- What the reference adds for that alignment: inside both lengths, the alignment times one minus the Gaussian of the
    row's distance to the diagonal; outside, nothing. -/
def referenceEntry (li lo : ℤ) (i j : ℕ) (a : EReal) : EReal :=
  if (i : ℤ) < lo ∧ (j : ℤ) < li then
    a * (1 - Ideal.exp (Ideal.div
      (-((((i : ℝ) : EReal) - Ideal.div ((j : ℝ) : EReal) ((li : ℝ) : EReal) * ((lo : ℝ) : EReal))
        * (((i : ℝ) : EReal) - Ideal.div ((j : ℝ) : EReal) ((li : ℝ) : EReal) * ((lo : ℝ) : EReal)))) (spread : EReal)))
  else 0

/-- Past the input length the kernel adds nothing: the cleared alignment is zero, and zero times anything is zero. -/
theorem kernelEntry_past (li lo : ℤ) (i j : ℕ) (a : EReal) (h : ¬(j : ℤ) < li) : kernelEntry li lo i j a = 0 := by
  simp [kernelEntry, h]

/-- Inside both lengths, at a finite alignment, the two agree: the input length is then positive, so every number in
    sight is real. -/
theorem kernelEntry_inside (li lo : ℤ) (i j : ℕ) (a : ℝ) (hi : (i : ℤ) < lo) (hj : (j : ℤ) < li) :
    kernelEntry li lo i j (a : EReal) = referenceEntry li lo i j (a : EReal) := by
  have hti : (li : ℝ) ≠ 0 := by
    have : 0 < li := lt_of_le_of_lt (Int.natCast_nonneg j) hj
    exact_mod_cast this.ne'
  have e : ((j : ℝ) * ((lo : ℝ) * (1 / (li : ℝ)) * scale)) = ((j : ℝ) * (1 / (li : ℝ)) * (lo : ℝ)) * scale := by ring
  simp only [kernelEntry, referenceEntry, hi, hj, and_self, if_true, mul_one, Ideal.div_coe hti,
    Ideal.div_coe spread_ne_zero, ← EReal.coe_mul, ← EReal.coe_sub, ← EReal.coe_neg, ← EReal.coe_one, Ideal.exp2_coe,
    Ideal.exp_coe, e, two_pow_scaled]
  congr 1
  ring

/-- The kernel's contribution of one alignment, with the rows past the output length cleared, is the reference's. -/
theorem entry_eq (li lo : ℤ) (i j : ℕ) {a : EReal} (ht : a ≠ ⊤) (hb : a ≠ ⊥) :
    (if (i : ℤ) < lo then kernelEntry li lo i j a else 0) = referenceEntry li lo i j a := by
  lift a to ℝ using ⟨ht, hb⟩
  by_cases hi : (i : ℤ) < lo
  · by_cases hj : (j : ℤ) < li
    · rw [if_pos hi, kernelEntry_inside li lo i j a hi hj]
    · rw [if_pos hi, kernelEntry_past li lo i j _ hj, referenceEntry, if_neg (fun h => hj h.2)]
  · rw [if_neg hi, referenceEntry, if_neg (fun h => hi h.1)]

/-- A whole row: the kernel clears the row's sum, the reference each summand. -/
theorem row_eq (li lo : ℤ) (i : ℕ) {n : ℕ} (a : Fin n → EReal) (ht : ∀ j, a j ≠ ⊤) (hb : ∀ j, a j ≠ ⊥) :
    (if (i : ℤ) < lo then ∑ j : Fin n, kernelEntry li lo i j (a j) else 0)
      = ∑ j : Fin n, referenceEntry li lo i j (a j) := by
  rw [← Finset.sum_congr rfl fun (j : Fin n) _ => entry_eq li lo i j (ht j) (hb j)]
  by_cases hi : (i : ℤ) < lo <;> simp [hi]

end Cert.Gauss

end
-- ==== Proof.Consts.lean ====
/-
  The float words the two programs carry, read as extended reals. They are unfolded here, once.
-/
module

public import Idealize.ShloMosaic.PureOps.Ideal
public import Idealize.ShloMosaic.Lib.Pointwise
public import proofs.«01_k».proof.Proof.Gauss

@[expose] public section

noncomputable section

open Idealize.ShloMosaic

namespace Cert.Consts

/-- The word the reference divides the squared distance by is the spread. -/
theorem ofBits_spread : Ideal.ofBits .f32 0x3EA3D70A#32 = (Cert.Gauss.spread : EReal) := by
  simp [Ideal.ofBits, Ideal.ieee, Cert.Gauss.spread, -EReal.coe_mul]
  norm_num

/-- The word the precondition compares an absolute value with is plus infinity. -/
theorem ofBits_inf : Ideal.ofBits .f32 0x7F800000#32 = ⊤ := by
  simp [Ideal.ofBits, Ideal.ieee]

/-- A natural number below `2 ^ 31`, written as a 32-bit word and read as a signed integer, is itself. -/
theorem toInt_ofNat {n : ℕ} (h : n < 2 ^ 31) : (BitVec.ofNat 32 n).toInt = (n : ℤ) := by
  rw [BitVec.toInt_eq_toNat_cond, BitVec.toNat_ofNat, Nat.mod_eq_of_lt (by omega)]
  split <;> omega

/-- A coordinate converted to a float is the coordinate. -/
theorem sitofp_ofNat {n : ℕ} (h : n < 2 ^ 31) :
    FloatOps.sitofp (F := Ideal) .f32 (BitVec.ofNat 32 n) = (((n : ℝ) : ℝ) : EReal) := by
  change (((BitVec.ofNat 32 n).toInt : ℝ) : EReal) = _
  rw [toInt_ofNat h, Int.cast_natCast]

/-- A word converted to a float is its signed reading. -/
theorem sitofp_word (w : BitVec 32) : FloatOps.sitofp (F := Ideal) .f32 w = ((w.toInt : ℝ) : EReal) := rfl

/-- A coordinate is below a length as floats exactly when it is as integers. -/
theorem coord_lt (n : ℕ) (z : ℤ) : (((n : ℝ) : EReal) < ((z : ℝ) : EReal)) ↔ (n : ℤ) < z := by
  rw [EReal.coe_lt_coe_iff]
  exact_mod_cast Iff.rfl

/-- A comparison's bit, widened and converted, is one or zero. -/
theorem sitofp_bit {p q : Prop} [Decidable p] [Decidable q] (h : p ↔ q) :
    FloatOps.sitofp (F := Ideal) .f32 (BitVec.setWidth 32 (BitVec.ofBool (decide p))) = if q then (1 : EReal) else 0 := by
  change (((BitVec.setWidth 32 (BitVec.ofBool (decide p))).toInt : ℝ) : EReal) = _
  by_cases h' : q <;> simp [h, h']

end Cert.Consts

end
-- ==== Proof.Payloads.lean ====
/-
  What one grid point computes, read at an index. A point adds four sequences to a column of row accumulators, each in the
  same way: to the accumulator of a row, the sum of the row's contributions, or nothing past the output length.
-/
module

public import proofs.«01_k».proof.Proof.Gen.KernelIdeal.Skeleton
public import proofs.«01_k».proof.Proof.Consts
public import Idealize.ShloMosaic.Lib.Pointwise
public import Idealize.ShloMosaic.Lib.ValueIdx

@[expose] public section

noncomputable section

open Idealize.ShloMosaic Idealize.ShloMosaic.TcCoe Idealize.SL.Sem

namespace Cert.KernelIdeal.Mean

open Cert.KernelIdeal Cert.KernelIdeal.Gen Cert.Gauss Cert.Consts

/-- The kernel's named constant is the scale. -/
theorem named_c : Named.named (F := Ideal) κ "c" (φ := .f32) 0x4007E439#32 = (scale : EReal) :=
  IdealRules.named_const.ideal_named_scalar _ _ _ _ rfl

/-- The row numbers, one column. -/
def rows : Vec Ideal S2000x1 .f32 := fun y => (((y 0 : ℕ) : ℝ) : EReal)

/-- The row numbers times the scale, repeated in every lane. -/
def scaledRows : Vec Ideal S2000x128 .f32 := fun y => (((y 0 : ℕ) : ℝ) : EReal) * (scale : EReal)

/-- What one sequence, of input length `li` and output length `lo`, adds to the accumulator of row `i`, the row's
    alignments being `x`. -/
def rowTerm (li lo : BitVec 32) (i : ℕ) (x : Fin 512 → EReal) : EReal :=
  if (i : ℤ) < lo.toInt then ∑ j : Fin 512, kernelEntry li.toInt lo.toInt i j (x j) else 0

/-- The first stored table is the scaled row numbers. -/
theorem pay2_eq : k0_pay2 (F := Ideal) = scaledRows := by
  funext y
  idx_vars y
  pointwise [k0_pay2, scaledRows]
  rw [named_c, sitofp_ofNat (by omega)]

/-- The second stored table is the row numbers. -/
theorem pay3_eq : k0_pay3 (F := Ideal) = rows := by
  funext y
  idx_vars y
  pointwise [k0_pay3, rows]
  rw [sitofp_ofNat (by omega)]

/-- The accumulators start at zero. -/
theorem pay4_eq : k0_pay4 (F := Ideal) = fun _ => 0 := by
  funext y
  pointwise [k0_pay4]

/-- The lanes laid side by side still hold the scaled row number. -/
theorem pay5_apply (i : Fin 2000) (j : Fin 512) :
    k0_pay5 (F := Ideal) scaledRows (ix2 i j) = (((i : ℕ) : ℝ) : EReal) * (scale : EReal) := by
  pointwise [k0_pay5, scaledRows]
  split_ifs <;> rfl

/-- The column numbers. -/
theorem pay6_apply (j : Fin 512) : k0_pay6 (F := Ideal) (ix2 0 j) = (((j : ℕ) : ℝ) : EReal) := by
  pointwise [k0_pay6]
  rw [sitofp_ofNat (by omega)]

/-- Adding one sequence: its lengths `li` and `lo`, its alignments `x`, the accumulators before `acc`. -/
def addSequence {F : FTy → Type} [FloatOps F] [Named F] (v3 : Vec F S2000x128 .f32) (v7 : Vec F S2000x1 .f32)
    (li lo : Elt F .i32) (x : Vec F S1x2000x512 .f32) (acc : Vec F S2000x1 .f32) : Vec F S2000x1 .f32 :=
  k0_pay9 v7 (k0_pay7 lo) (k0_pay8 v3 li lo x) acc

section

variable {F : FTy → Type} [FloatOps F] [Named F] (v3 : Vec F S2000x128 .f32) (v7 : Vec F S2000x1 .f32)
  (li lo : Elt F .i32) (x : Vec F S1x2000x512 .f32) (acc : Vec F S2000x1 .f32)

/-- So the first sequence of a point is added; -/
theorem first_eq : k0_pay9 v7 (k0_pay7 lo) (k0_pay8 v3 li lo x) acc = addSequence v3 v7 li lo x acc := rfl

/-- the second is added as the first is, -/
theorem second_eq : k0_pay14 (k0_pay11 (k0_pay5 v3) k0_pay6 li lo x) acc (k0_pay12 v7 lo) k0_pay13
    = addSequence v3 v7 li lo x acc := rfl

/-- the third too, -/
theorem third_eq : k0_pay16 (k0_pay15 (k0_pay5 v3) k0_pay6 v7 li lo x acc) = addSequence v3 v7 li lo x acc := rfl

/-- and the fourth. -/
theorem fourth_eq : k0_pay17 (k0_pay5 v3) k0_pay6 v7 li lo x acc = addSequence v3 v7 li lo x acc := rfl

end

/-- Adding one sequence, at a row: its term is added to the accumulator. -/
theorem addSequence_apply (li lo : BitVec 32) (x : Vec Ideal S1x2000x512 .f32) (acc : Vec Ideal S2000x1 .f32) (i : Fin 2000) :
    addSequence (F := Ideal) scaledRows rows li lo x acc (ix2 i 0)
      = (acc (ix2 i 0) : EReal) + rowTerm li lo i fun j => x (ix3 0 i j) := by
  pointwise [addSequence, k0_pay9, k0_pay8, k0_pay7, rowTerm, rows]
  congr 1
  refine if_congr (coord_lt i _) (Finset.sum_congr rfl fun j _ => ?_) rfl
  rw [pay5_apply, pay6_apply, named_c, sitofp_bit (coord_lt j _)]
  rfl

/-- The last point's output: in every entry, the sum of the accumulators. -/
theorem pay1_apply (acc : Vec Ideal S2000x1 .f32) (y : S8x128.Idx) :
    k0_pay1 (F := Ideal) acc y = ∑ i : Fin 2000, (acc (ix2 i 0) : EReal) := by
  pointwise [k0_pay1]
  simp

end Cert.KernelIdeal.Mean

end
-- ==== Proof.Reads.lean ====
module

public import proofs.«01_k».proof.Proof.Gen.KernelIdeal.Frame
public import proofs.«01_k».proof.Proof.Payloads
public import Idealize.ShloMosaic.Lib.Pipeline.ValueKit
public import Idealize.ShloMosaic.Lib.Pipeline.ReadBack
public import Idealize.ShloMosaic.Lib.Tactic

/-!
# What one grid point reads

The launch has sixteen grid points and point `t` handles the four sequences `4 t`, `4 t + 1`, `4 t + 2` and
`4 t + 3`. For the sequence in place `s` it reads one word of the table of input lengths, one word of the table
of output lengths, and plane `s` of its block of the alignments. This module says that each of these reads
gives the argument array's own entry for sequence `4 t + s`, and what one step of the kernel then adds to
the accumulator.
-/

@[expose] public section

noncomputable section

open Idealize.ShloMosaic Idealize.ShloMosaic.TcCoe Idealize.SL.Sem

namespace Cert.KernelIdeal.Mean

open Cert.KernelIdeal Cert.KernelIdeal.Gen

variable (m : (ℓ : Loc nD τ sig) → Buf (Elt Ideal) ℓ)

/-- The alignments, one `2000 × 512` matrix for each of the 64 sequences. -/
abbrev alignments (c : Dev nD) : S64x2000x512.Idx → EReal := m ((c.tc : Thread nD τ).loc main_arg0)

/-- The input lengths, as words. -/
abbrev inputLengths (c : Dev nD) : S64.Idx → BitVec 32 := m ((c.tc : Thread nD τ).loc main_arg1)

/-- The output lengths, as words. -/
abbrev outputLengths (c : Dev nD) : S64.Idx → BitVec 32 := m ((c.tc : Thread nD τ).loc main_arg2)

/-- What row `i` of sequence `b` contributes. -/
def contribution (c : Dev nD) (b : Fin 64) (i : Fin 2000) : EReal :=
  rowTerm (inputLengths m c (ix1 b)) (outputLengths m c (ix1 b)) i fun j => alignments m c (ix3 b i j)

/-- The grid has one axis, so the coordinate of point `t` is `t`. -/
theorem coords_val : ∀ t : Fin grid0.N, ((grid0.coords t) 0).val = t.val := by decide +kernel

/-- The block of alignments that point `t` works on is block `t` along the sequences. -/
theorem block_index : ∀ t : Fin grid0.N, cc0_transform_0 (grid0.coords t) = ![t.val, 0, 0] := by decide +kernel

/-- Sequence `4 t + s` is one of the 64. -/
theorem sequence_val (t : Fin grid0.N) {s : ℕ} (hs : s < 4) : (Fin.ofNat 64 (4 * t.val + s)).val = 4 * t.val + s := by
  have ht : t.val < 16 := lt_of_lt_of_eq t.isLt N_0
  exact Nat.mod_eq_of_lt (by omega)

/-- Where the word for sequence `4 t + s` stands in a table of 64 words. -/
theorem word_offset (t : Fin grid0.N) {s : ℕ} (hs : s < 4) : k0_off1 (grid0.coords t) (BitVec.ofNat 32 s) 0 = 4 * t.val + s := by
  have e := congrFun (k0_off1_eq (grid0.coords t) ⟨s, hs⟩) 0
  rw [coords_val] at e
  exact e

/-- The word read off the table of input lengths at point `t`, place `s`. -/
theorem inputLength_read (c : Dev nD) (t : Fin grid0.N) {s : ℕ} (hs : s < 4) (h h') :
    View.readAt (Elt Ideal) (View.whole main_arg1)
        (Rect.unit (k0_off1 (grid0.coords t) (BitVec.ofNat 32 s)) ![1] h).toLoadRect (tbl m 0) (Shape.Idx.first h')
      = inputLengths m c (ix1 (Fin.ofNat 64 (4 * t.val + s))) := by
  obtain rfl : c = 0 := Subsingleton.elim _ _
  change m _ _ = m _ _
  congr 1
  funext a
  apply Fin.ext
  match a with
  | ⟨0, _⟩ => exact (word_offset t hs).trans (sequence_val t hs).symm

/-- The word read off the table of output lengths at point `t`, place `s`. -/
theorem outputLength_read (c : Dev nD) (t : Fin grid0.N) {s : ℕ} (hs : s < 4) (h h') :
    View.readAt (Elt Ideal) (View.whole main_arg2)
        (Rect.unit (k0_off1 (grid0.coords t) (BitVec.ofNat 32 s)) ![1] h).toLoadRect (tbl m 1) (Shape.Idx.first h')
      = outputLengths m c (ix1 (Fin.ofNat 64 (4 * t.val + s))) := by
  obtain rfl : c = 0 := Subsingleton.elim _ _
  change m _ _ = m _ _
  congr 1
  funext a
  apply Fin.ext
  match a with
  | ⟨0, _⟩ => exact (word_offset t hs).trans (sequence_val t hs).symm

/-- Plane `s` of the block of alignments at point `t` is the matrix of sequence `4 t + s`. -/
theorem alignment_read (hO : Ok m) (c : Dev nD) (t : Fin (cfgM m hO).N) {s : ℕ} (hs : s < 4) (h) (i : Fin 2000) (j : Fin 512) :
    View.ld (iblk m hO c 0 t) (Rect.unit (s := S4x2000x512) ![s, 0, 0] ![1, 2000, 512] h) (ix3 0 i j)
      = alignments m c (ix3 (Fin.ofNat 64 (4 * t.val + s)) i j) := by
  have hv := sequence_val t hs
  pointwise
  blk_simp [iblk, V]
  change m _ _ = m _ _
  congr 1
  funext a
  apply Fin.ext
  refine (Pipeline.Window.rect_emb_val ((cfgM m hO).win 0) t _ a rfl).trans ?_
  have e : ((cfgM m hO).win 0).index t a = ![t.val, 0, 0] a := congrFun (block_index t) a
  rw [e]
  match a with
  | ⟨0, _⟩ => exact (by omega : t.val * 4 + s = 4 * t.val + s).trans hv.symm
  | ⟨1, _⟩ => exact (by omega : 0 * 2000 + i.val = i.val)
  | ⟨2, _⟩ => exact (by omega : 0 * 512 + j.val = j.val)

/-- One step over the point's block `X`: place `s` of point `t` adds the contribution of sequence `4 t + s` to each row of the accumulator. -/
theorem step_apply (hO : Ok m) (c : Dev nD) (t : Fin (cfgM m hO).N) {s : ℕ} (hs : s < 4) {X : Vec Ideal S4x2000x512 .f32}
    (hX : X = iblk m hO c 0 t) (h₁ h₁' h₂ h₂' h₃) (acc : S2000x1.Idx → EReal) (i : Fin 2000) :
    addSequence scaledRows rows
        (View.readAt (Elt Ideal) (View.whole main_arg1)
          (Rect.unit (k0_off1 (grid0.coords t) (BitVec.ofNat 32 s)) ![1] h₁).toLoadRect (tbl m 0) (Shape.Idx.first h₁'))
        (View.readAt (Elt Ideal) (View.whole main_arg2)
          (Rect.unit (k0_off1 (grid0.coords t) (BitVec.ofNat 32 s)) ![1] h₂).toLoadRect (tbl m 1) (Shape.Idx.first h₂'))
        (View.ld X (Rect.unit (s := S4x2000x512) ![s, 0, 0] ![1, 2000, 512] h₃)) acc (ix2 i 0)
      = acc (ix2 i 0) + contribution m c (Fin.ofNat 64 (4 * t.val + s)) i := by
  subst hX
  rw [inputLength_read m c t hs, outputLength_read m c t hs]
  refine (addSequence_apply _ _ _ acc i).trans ?_
  exact congrArg (fun x => acc (ix2 i 0) + rowTerm _ _ i x) (funext fun j => alignment_read m hO c t hs h₃ i j)

end Cert.KernelIdeal.Mean
-- ==== Proof.Accumulate.lean ====
module

public import proofs.«01_k».proof.Proof.Reads

/-!
# What the kernel's scratch holds after each grid point

The first point fills the table of scaled row numbers and the table of row numbers, and sets the accumulators
to zero. Every later point finds them as the point before left them. So after point `n` the accumulator of
row `i` is the sum of what row `i` of the first `4 (n + 1)` sequences contributes, and the last point writes the
sum of all accumulators into every entry of its output block.
-/

@[expose] public section

noncomputable section

open Idealize.ShloMosaic Idealize.ShloMosaic.TcCoe Idealize.SL.Sem

namespace Cert.KernelIdeal.Mean

open Cert.KernelIdeal Cert.KernelIdeal.Gen

variable (m : (ℓ : Loc nD τ sig) → Buf (Elt Ideal) ℓ)

/-- The contributions of the four sequences of point `n`, added one after the other to `a`. -/
def addFour (c : Dev nD) (n : ℕ) (i : Fin 2000) (a : EReal) : EReal :=
  a + contribution m c (Fin.ofNat 64 (4 * n)) i + contribution m c (Fin.ofNat 64 (4 * n + 1)) i
    + contribution m c (Fin.ofNat 64 (4 * n + 2)) i + contribution m c (Fin.ofNat 64 (4 * n + 3)) i

/-- The sum over the first `4 n` sequences, with those of point `n` added, is the sum over the first `4 (n + 1)`. -/
theorem addFour_sum (c : Dev nD) (n : ℕ) (i : Fin 2000) :
    addFour m c n i (∑ k ∈ Finset.range (4 * n), contribution m c (Fin.ofNat 64 k) i)
      = ∑ k ∈ Finset.range (4 * (n + 1)), contribution m c (Fin.ofNat 64 k) i := by
  rw [show 4 * (n + 1) = 4 * n + 1 + 1 + 1 + 1 by omega]
  simp only [Finset.sum_range_succ, addFour]

/-- The first point: the two tables are filled, and four contributions are added to zero. -/
theorem first_point (hO : Ok m) (c : Dev nD) (t : Fin (cfgM m hO).N) (h : t.val = 0) :
    (outsAt0 m hO c t.val t.isLt).2.1 = scaledRows ∧ (outsAt0 m hO c t.val t.isLt).2.2.1 = rows
      ∧ ∀ i : Fin 2000, (outsAt0 m hO c t.val t.isLt).2.2.2 (ix2 i 0) = addFour m c t.val i 0 := by
  have hX := (hs0_0 m hO t).read_unread (iblk m hO c 0 t)
  rw [outsAt0_A m hO c t (by omega) (by omega)]
  frame_out
  refine ⟨pay2_eq, pay3_eq, fun i => ?_⟩
  rw [pay2_eq, pay3_eq, pay4_eq, second_eq, third_eq, fourth_eq, first_eq]
  refine (step_apply m hO c t (s := 3) (by decide) hX _ _ _ _ _ _ i).trans (congrArg (· + _) ?_)
  refine (step_apply m hO c t (s := 2) (by decide) hX _ _ _ _ _ _ i).trans (congrArg (· + _) ?_)
  refine (step_apply m hO c t (s := 1) (by decide) hX _ _ _ _ _ _ i).trans (congrArg (· + _) ?_)
  exact step_apply m hO c t (s := 0) (by decide) hX _ _ _ _ _ _ i

/-- A later point: the two tables are as they were, and four contributions are added to what the accumulator was. -/
theorem later_point (hO : Ok m) (c : Dev nD) (t : Fin (cfgM m hO).N) (h : ¬t.val % 16 = 0) (p : t.val - 1 < (cfgM m hO).N)
    (e₁ : (outsAt0 m hO c (t.val - 1) p).2.1 = scaledRows) (e₂ : (outsAt0 m hO c (t.val - 1) p).2.2.1 = rows) :
    (outsAt0 m hO c t.val t.isLt).2.1 = scaledRows ∧ (outsAt0 m hO c t.val t.isLt).2.2.1 = rows
      ∧ ∀ i : Fin 2000, (outsAt0 m hO c t.val t.isLt).2.2.2 (ix2 i 0)
        = addFour m c t.val i ((outsAt0 m hO c (t.val - 1) p).2.2.2 (ix2 i 0)) := by
  have hX := (hs0_0 m hO t).read_unread (iblk m hO c 0 t)
  by_cases h' : t.val % 16 = 15 <;> [rw [outsAt0_C m hO c t h h']; rw [outsAt0_B m hO c t h h']] <;> refine ⟨e₁, e₂, fun i => ?_⟩
  all_goals
    frame_out
    simp only [read_unread_whole]
    rw [e₁, e₂, second_eq, third_eq, fourth_eq, first_eq]
    refine (step_apply m hO c t (s := 3) (by decide) hX _ _ _ _ _ _ i).trans (congrArg (· + _) ?_)
    refine (step_apply m hO c t (s := 2) (by decide) hX _ _ _ _ _ _ i).trans (congrArg (· + _) ?_)
    refine (step_apply m hO c t (s := 1) (by decide) hX _ _ _ _ _ _ i).trans (congrArg (· + _) ?_)
    exact step_apply m hO c t (s := 0) (by decide) hX _ _ _ _ _ _ i

/-- After point `n`: the two tables, and in each accumulator the sum over the first `4 (n + 1)` sequences. -/
theorem after_point (hO : Ok m) (c : Dev nD) : ∀ (n : ℕ) (hn : n < (cfgM m hO).N),
    (outsAt0 m hO c n hn).2.1 = scaledRows ∧ (outsAt0 m hO c n hn).2.2.1 = rows
      ∧ ∀ i : Fin 2000, (outsAt0 m hO c n hn).2.2.2 (ix2 i 0)
        = ∑ k ∈ Finset.range (4 * (n + 1)), contribution m c (Fin.ofNat 64 k) i
  | 0, hn => by
    obtain ⟨e₁, e₂, e₃⟩ := first_point m hO c ⟨0, hn⟩ rfl
    exact ⟨e₁, e₂, fun i => (e₃ i).trans (addFour_sum m c 0 i)⟩
  | n + 1, hn => by
    have hN : n + 1 < 16 := lt_of_lt_of_eq hn N_0
    obtain ⟨e₁, e₂, e₃⟩ := after_point hO c n (by omega)
    obtain ⟨d₁, d₂, d₃⟩ := later_point m hO c ⟨n + 1, hn⟩ (by show ¬(n + 1) % 16 = 0; omega) (Nat.lt_of_succ_lt hn) e₁ e₂
    refine ⟨d₁, d₂, fun i => (d₃ i).trans ?_⟩
    rw [← addFour_sum m c (n + 1) i]
    exact congrArg (addFour m c (n + 1) i) (e₃ i)

/-- The sum of all contributions, rows outside and sequences inside, as the kernel adds them. -/
def total (c : Dev nD) : EReal := ∑ i : Fin 2000, ∑ b : Fin 64, contribution m c b i

/-- The last point leaves the total in every entry of its output block. -/
theorem last_output (hO : Ok m) (c : Dev nD) (t : Fin (cfgM m hO).N) (h : t.val = 15) (y : S8x128.Idx) :
    (outsAt0 m hO c t.val t.isLt).1 y = total m c := by
  have e : (outsAt0 m hO c t.val t.isLt).1 y = k0_pay1 (outsAt0 m hO c t.val t.isLt).2.2.2 y := by
    rw [outsAt0_C m hO c t (by omega) (by omega)]
    frame_out
  rw [e, pay1_apply]
  refine Finset.sum_congr rfl fun i _ => ?_
  rw [(after_point m hO c t.val t.isLt).2.2 i, h]
  refine (Finset.sum_range fun k => contribution m c (Fin.ofNat 64 k) i).trans (Finset.sum_congr rfl fun b _ => ?_)
  exact congrArg (contribution m c · i) (Fin.ext (Nat.mod_eq_of_lt b.isLt))

end Cert.KernelIdeal.Mean

end
-- ==== Proof.Output.lean ====
module

public import proofs.«01_k».proof.Proof.Accumulate

/-!
# What the kernel's program returns

The output block is written back once, after the last grid point, and is the whole output array; so every
entry of that array is the total. The lines after the launch take its first entry and divide it by the
number of sequences.
-/

@[expose] public section

noncomputable section

open Idealize.ShloMosaic Idealize.ShloMosaic.TcCoe Idealize.SL.Sem

namespace Cert.KernelIdeal.Mean

open Cert.KernelIdeal Cert.KernelIdeal.Gen

variable (m : (ℓ : Loc nD τ sig) → Buf (Elt Ideal) ℓ)

/-- The last grid point. -/
def lastPoint (hO : Ok m) : Fin (cfgM m hO).N := ⟨15, by show 15 < grid0.N; rw [N_0]; decide⟩

/-- The output block is the whole output array, and only the last point writes it back. -/
theorem output_whole (hO : Ok m) : ((cfgM m hO).win 1).WholeAt (lastPoint m hO) := by
  have h15 : (lastPoint m hO).val = 15 := rfl
  refine ⟨(flush0_1 (adm m hO) _).2 (by omega), fun t ht => Fin.ext ?_, fun a => ⟨?_, rfl⟩⟩
  · have := (flush0_1 (adm m hO) t).1 ht
    have ht16 : t.val < 16 := lt_of_lt_of_eq t.isLt N_0
    omega
  · match a with
    | ⟨0, _⟩ => rfl
    | ⟨1, _⟩ => rfl

/-- The output array after the launch: the total in every entry. -/
theorem output_array (hO : Ok m) (c : Dev nD) :
    (dats m hO 0 c).arrAt 1 (cfgM m hO).N = fun _ => total m c := by
  refine (dats m hO 0 c).arrAt_eq_of_after_last 1 (lastPoint m hO) (output_whole m hO) _ fun j => ?_
  rw [after0_1]
  exact last_output m hO c (lastPoint m hO) rfl _

/-- The value returned: the total divided by the number of sequences. -/
def result (c : Dev nD) : EReal := Ideal.div (total m c) (Ideal.ofBits .f32 0x42800000#32)

/-- The lines after the launch leave the value returned in `main_v3`. -/
theorem tail_result (hO : Ok m) (c : Dev nD) :
    Pipeline.afterTail pcfgs (fun _ => adm m hO) (dats m hO) 0 (V0 m) [hostOps1] c main_v3 = fun _ => result m c := by
  unfold Pipeline.afterTail
  simp only [hostOps1, List.flatten_cons, List.flatten_nil, List.append_nil]
  after_results
  have e : Pipeline.withArrays (Pipeline.pin pcfgs (fun _ => adm m hO) 0).spec c (V0 m c)
      (fun w => (dats m hO 0 c).arrAt w (Pipeline.pin pcfgs (fun _ => adm m hO) 0).N) (Proc.tc.devRef main_v0)
      = fun _ => total m c :=
    (Pipeline.withArrays_arr spec0 (by decide) c (V0 m c) (fun w => (dats m hO 0 c).arrAt w (cfgM m hO).N) 1).trans
      (output_array m hO c)
  rw [e]
  funext y
  pointwise [result]

/-- Every run of the kernel's program ends with the value returned in `main_v3` and its arguments as they were. -/
theorem run (ρ : Dev nD → PrngReg) (hO : Ok m) :
    θ_run defs (onTc (τ := τ) (main (F := Ideal))) ⟨m, fun _ => 0, ρ⟩ (fun r => ∀ c : Dev nD,
      r.2.mem ((c.tc : Thread nD τ).loc main_v3) = (fun _ => result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (by decide : main_v3 ∈ Pipeline.restRefs sig spec0)).trans (tail_result m hO c),
      ((h c).1 0).trans (((dats m hO 0 c).arrAt_in 0 rfl _).trans ((A_eq m hO c 0).trans (V_main_arg0 m c))),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c)⟩)
    (run_main m ρ hO)

end Cert.KernelIdeal.Mean

end
-- ==== Proof.Reference.lean ====
/-
  What the reference computes: over every sequence, row and column, the sum of the alignment times its weight, divided by
  the number of sequences.
-/
module

public import proofs.«01_k».proof.Proof.Gen.ReferenceIdeal.Run
public import proofs.«01_k».proof.Proof.Consts
public import Idealize.ShloMosaic.Lib.Pointwise
public import Idealize.ShloMosaic.Lib.ValueIdx

@[expose] public section

noncomputable section

open Idealize.ShloMosaic Idealize.ShloMosaic.TcCoe Idealize.SL.Sem

namespace Cert.ReferenceIdeal.Mean

open Cert.ReferenceIdeal Cert.ReferenceIdeal.Gen Cert.Gauss Cert.Consts

/-- The sum of one sequence's contributions: its alignments `A b`, its input length and its output length. -/
def sequenceSum (A : S64x2000x512.Idx → EReal) (I O : S64.Idx → BitVec 32) (b : Fin 64) : EReal :=
  ∑ i : Fin 2000, ∑ j : Fin 512, referenceEntry (I (ix1 b)).toInt (O (ix1 b)).toInt i j (A (ix3 b i j))

/-- The loss: the sequences' sums added and divided by the word of their number. -/
def loss (A : S64x2000x512.Idx → EReal) (I O : S64.Idx → BitVec 32) : EReal :=
  Ideal.div (∑ b : Fin 64, sequenceSum A I O b) (Ideal.ofBits .f32 0x42800000#32)

/-- A value kept under two conditions, and zero elsewhere. -/
theorem select_and {p q p' q' : Prop} [Decidable p] [Decidable q] [Decidable p'] [Decidable q'] (hp : p ↔ p') (hq : q ↔ q')
    (a : EReal) :
    Scalar.select (IntOp.andi (BitVec.ofBool (decide p)) (BitVec.ofBool (decide q))) a 0 = if p' ∧ q' then a else 0 := by
  by_cases h : p' <;> by_cases h' : q' <;> simp [hp, hq, h, h', Scalar.select, IntOp.andi]

variable (m : (ℓ : Loc nD τ sig) → Buf (Elt Ideal) ℓ) (ρ : Dev nD → PrngReg)

/-- The reference's run ends with the loss of its arguments in the result array and the arguments unchanged. -/
theorem run : θ_run (defs (F := Ideal)) (onTc (τ := τ) (main (F := Ideal))) ⟨m, fun _ => 0, ρ⟩ fun r => ∀ c : Dev nD,
      r.2.mem ((c.tc : Thread nD τ).loc main_v35)
        = (fun _ => loss (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun _ h c => ⟨(h c).1.trans ?_, (h c).2⟩) (Cert.ReferenceIdeal.Value.run (F := Ideal) m ρ)
  funext y
  pointwise [loss, sequenceSum]
  congr 1
  refine Finset.sum_congr rfl fun b _ => Finset.sum_congr rfl fun i _ => Finset.sum_congr rfl fun j _ => ?_
  rw [sitofp_ofNat (n := i) (by omega), sitofp_ofNat (n := j) (by omega), sitofp_word, sitofp_word,
    select_and (coord_lt i _) (coord_lt j _), ofBits_spread]
  rfl

end Cert.ReferenceIdeal.Mean

end
-- ==== Proof.Equation.lean ====
module

public import proofs.«01_k».proof.Proof.Output
public import proofs.«01_k».proof.Proof.Reference

/-!
# The equation

The kernel adds the contributions of row `i` of all sequences first and then adds the rows. The reference adds
the rows of one sequence and then the sequences. Row by row the two contributions are the same number when the
alignments are finite, so the two sums are the same sum in two orders.
-/

@[expose] public section

noncomputable section

open Idealize.ShloMosaic Idealize.ShloMosaic.TcCoe

namespace Cert.KernelIdeal.Mean

open Cert.KernelIdeal Cert.KernelIdeal.Gen Cert.Gauss Cert.ReferenceIdeal.Mean

variable (m : (ℓ : Loc nD τ sig) → Buf (Elt Ideal) ℓ)

/-- The kernel's total is the sum over the sequences of the reference's sums. -/
theorem total_eq (c : Dev nD) (h : ∀ x, alignments m c x ≠ ⊤ ∧ alignments m c x ≠ ⊥) :
    total m c = ∑ b : Fin 64, sequenceSum (alignments m c) (inputLengths m c) (outputLengths m c) b := by
  unfold total sequenceSum
  rw [Finset.sum_comm]
  refine Finset.sum_congr rfl fun b _ => Finset.sum_congr rfl fun i _ => ?_
  exact row_eq _ _ i _ (fun j => (h _).1) (fun j => (h _).2)

/-- The value the kernel returns is the loss. -/
theorem result_eq (c : Dev nD) (h : ∀ x, alignments m c x ≠ ⊤ ∧ alignments m c x ≠ ⊥) :
    result m c = loss (alignments m c) (inputLengths m c) (outputLengths m c) := by
  unfold result loss
  rw [total_eq m c h]

end Cert.KernelIdeal.Mean

end
-- ==== Proof.Finite.lean ====
/-
  What the precondition says: no alignment is an infinity.
-/
module

public import proofs.«01_k».proof.Proof.Gen.Pre_finite
public import proofs.«01_k».proof.Proof.Consts
public import Idealize.ShloMosaic.Lib.ReduceAll
public import Idealize.ShloMosaic.Lib.Pointwise
public import Idealize.ShloMosaic.Lib.ValueIdx

@[expose] public section

noncomputable section

open Idealize.ShloMosaic

namespace Cert.Pre_finite.Decode

open Cert.Pre_finite Cert.Pre_finite.Gen Cert.Consts

/-- An extended real whose absolute value is below plus infinity is neither infinity. -/
theorem ne_of_abs_lt {a : EReal} (h : FloatOps.absf (F := Ideal) (φ := .f32) a < (⊤ : EReal)) : a ≠ ⊤ ∧ a ≠ ⊥ := by
  constructor <;> rintro rfl <;> simp [FloatOps.absf] at h

/-- The precondition at one alignment. -/
theorem finite_at (A : FVec Ideal S64x2000x512 .f32) (I O : IVec S64 32) (h : fn (F := Ideal) A I O = fun _ => 1#1)
    (x : S64x2000x512.Idx) : (A x : EReal) ≠ ⊤ ∧ (A x : EReal) ≠ ⊥ := by
  have e := congrFun h (fun a => a.elim0)
  dsimp only [fn] at e
  have hx := Host.reduce_andi_all _ _ _ _ _ e x
  pointwise at hx
  rw [ofBits_inf] at hx
  apply ne_of_abs_lt
  by_contra hn
  simp [hn] at hx

end Cert.Pre_finite.Decode

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Equation
public import proofs.«01_k».proof.Proof.Finite
public import Idealize.ShloMosaic.Adequacy
public import Idealize.ShloMosaic.Init
public import Idealize.ShloMosaic.Lib.Quiescent

/-!
# The proof of the claim

The frames of the kernel, of its idealization and of the reference; the named constant; and the equation of
the idealized kernel with the reference. The two runs and the equation come from the modules under `Proof/`.
-/

@[expose] public section

noncomputable section

namespace Cert.Proof

open Idealize.ShloMosaic Idealize.SL.Sem

/-- The kernel's frame. -/
theorem kernel_frame : Cert.quiescent_Kernel := fun m ρ _ => Cert.Kernel.Gen.frame m ρ trivial

/-- The idealized kernel's frame. -/
theorem kernelIdeal_frame : Cert.quiescent_KernelIdeal := fun m ρ _ => Cert.KernelIdeal.Gen.frame m ρ trivial

/-- The reference's frame. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel's constant is the rounding of the number it stands for. -/
theorem constant : Cert.preserves_Kernel_KernelIdeal :=
  IdealRules.named_const.statement Cert.KernelIdeal.κ "c" .f32 0x4007E439#32 _ rfl

/-- The idealized kernel and the reference return the same value where the alignments are finite. -/
theorem value : Cert.algebraic_KernelIdeal_ReferenceIdeal_pre_finite := fun m g m' g' hpre hargs => by
  refine ⟨fun c _ => Cert.KernelIdeal.Mean.result m c, Cert.KernelIdeal.Mean.run m g trivial, ?_⟩
  refine (θ_run Cert.ReferenceIdeal.defs _ _).mono (fun r h c => ⟨(h c).1.trans ?_, (h c).2⟩)
    (Cert.ReferenceIdeal.Mean.run m' g')
  obtain ⟨e₀, e₁, e₂⟩ := hargs c
  rw [e₀, e₁, e₂]
  funext _
  exact (Cert.KernelIdeal.Mean.result_eq m c (Cert.Pre_finite.Decode.finite_at _ _ _ (hpre c))).symm

/-- The claim: the frames, with and without the precondition, the constant, and the value. -/
theorem claim : Cert.Claim :=
  ⟨Cert.Kernel.Gen.facts, Cert.KernelIdeal.Gen.facts, Cert.ReferenceIdeal.Gen.facts, Cert.Pre_finite.Gen.facts,
    kernel_frame, kernelIdeal_frame, fun m g _ => kernelIdeal_frame m g trivial, reference_frame,
    fun m g _ => reference_frame m g trivial, constant, value⟩

end Cert.Proof

end
